-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8192x4096 : Shape := ⟨2, ![8192, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)

variable [Facts]

def fn {F : FTy → Type} [FloatOps F] (main_arg0 : FVec F S8192x4096 .f32) (main_arg1 : FVec F S8192x4096 .f32) (main_arg2 : FVec F S4096 .f32) (main_arg3 : FVec F S4096 .f32) : IVec S8192x4096 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_v3 : FVec F S8192x4096 .f32 := Host.absf main_arg1
  let main_cst_0 : FVec F S_ .f32 := constant S_ .f32 0x7F800000#32
  let main_v4 : FVec F S8192x4096 .f32 := broadcastInDim S8192x4096 ![] bcast_S_S8192x4096 main_cst_0
  let main_v5 : IVec S8192x4096 1 := cmpf .olt main_v3 main_v4
  let main_v6 : IVec S8192x4096 1 := andi main_v2 main_v5
  main_v6
-- ==== Kernel.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩
abbrev S128x4096 : Shape := ⟨2, ![128, 4096]⟩
abbrev S128 : Shape := ⟨1, ![128]⟩
abbrev S128x1 : Shape := ⟨2, ![128, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S1x4096, .f32⟩
  | .local _ .vmem, ⟨5, _⟩ => ⟨S1x4096, .f32⟩
  | .local _ .vmem, ⟨6, _⟩ => ⟨S512x4096, .f32⟩
  | .local _ .vmem, ⟨7, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8192x4096 : Shape := ⟨2, ![8192, 4096]⟩
abbrev S4096 : Shape := ⟨1, ![4096]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x4096 : Shape := ⟨2, ![1, 4096]⟩

abbrev nBuf : Space → Nat
  | .hbm => 58
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S4096, .f32⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S8192x1, .i32⟩
  | .hbm, ⟨13, _⟩ => ⟨S1, .i32⟩
  | .hbm, ⟨14, _⟩ => ⟨S_, .i32⟩
  | .hbm, ⟨15, _⟩ => ⟨S8192x1, .i32⟩
  | .hbm, ⟨16, _⟩ => ⟨S8192x1, .i1⟩
  | .hbm, ⟨17, _⟩ => ⟨S1x1, .i32⟩
  | .hbm, ⟨18, _⟩ => ⟨S8192x1, .i32⟩
  | .hbm, ⟨19, _⟩ => ⟨S8192x1, .i1⟩
  | .hbm, ⟨20, _⟩ => ⟨S8192x1, .i1⟩
  | .hbm, ⟨21, _⟩ => ⟨S_, .i1⟩
  | .hbm, ⟨22, _⟩ => ⟨S8192, .i1⟩
  | .hbm, ⟨23, _⟩ => ⟨S8192x4096, .f32⟩
  | .hbm, ⟨24, _⟩ => ⟨S8192x4096, .i1⟩
  | .hbm, ⟨25, _⟩ => ⟨S_, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x4096, .f32⟩
  | .hbm, ⟨36, _⟩ => ⟨S8192x4096, .f32⟩
  | .hbm, ⟨37, _⟩ => ⟨S8192x4096, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x4096, .f32⟩
  | .hbm, ⟨45, _⟩ => ⟨S8192x4096, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x4096, .f32⟩
  | .hbm, ⟨51, _⟩ => ⟨S8192x4096, .f32⟩
  | .hbm, ⟨52, _⟩ => ⟨S1x4096, .f32⟩
  | .hbm, ⟨53, _⟩ => ⟨S8192x4096, .f32⟩
  | .hbm, ⟨54, _⟩ => ⟨S8192x4096, .f32⟩
  | .hbm, ⟨55, _⟩ => ⟨S1x4096, .f32⟩
  | .hbm, ⟨56, _⟩ => ⟨S8192x4096, .f32⟩
  | .hbm, ⟨57, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_cst : Ref sig .tc := ⟨.hbm, 29, rfl⟩
abbrev main_v3 : Ref sig .tc := ⟨.hbm, 30, rfl⟩
abbrev main_v4 : Ref sig .tc := ⟨.hbm, 31, rfl⟩
abbrev main_cst_0 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_1 : Ref sig .tc := ⟨.hbm, 38, rfl⟩
abbrev main_v10 : Ref sig .tc := ⟨.hbm, 39, rfl⟩
abbrev main_v11 : Ref sig .tc := ⟨.hbm, 40, rfl⟩
abbrev main_cst_2 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_3 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩

abbrev nD : Nat := 1
abbrev τ : Topo := Topo.v7x

variable {F : FTy → Type} [FloatOps F]
-- ==== Proof.RowNorm.lean ====
/-
  One row's layer normalization, written two ways over the extended reals, and the equation between them.
  The first takes the variance in one pass (the mean of the squares less the square of the mean) and multiplies by the
  reciprocal square root; the second subtracts the mean first, takes the mean of the squared differences, and divides by
  the square root. On a row of real numbers they agree; the scale and the shift may be any extended reals.
-/
module

public import Idealize.ShloMosaic.Lib.Pointwise
public import Idealize.ShloMosaic.PureOps.Ideal.Laws

@[expose] public section

noncomputable section

namespace Cert.RowNorm

open Idealize.ShloMosaic
open scoped BigOperators

/-- The width of a row. -/
abbrev width : Nat := 4096

/-- Row `p` of the sum of two arrays of rows. -/
abbrev sumRow {n : Nat} (x e : (⟨2, ![n, width]⟩ : Shape).Idx → EReal) (p : Fin n) : Fin width → EReal :=
  fun j => x (ix2 p j) + e (ix2 p j)

/-- The mean of a row, as its sum times the constant 1/4096. -/
def meanMul (h : Fin width → EReal) : EReal := (∑ j, h j) * Ideal.ofBits .f32 0x39800000#32

/-- The mean of a row, as its sum divided by the constant 4096. -/
def meanDiv (h : Fin width → EReal) : EReal := Ideal.div (∑ j, h j) (Ideal.ofBits .f32 0x45800000#32)

/-- Entry `k` of the row normalized in one pass, scaled by `g` and shifted by `b`. -/
def onePass (h : Fin width → EReal) (g b : EReal) (k : Fin width) : EReal :=
  (h k - meanMul h)
    * (Ideal.rsqrt (meanMul (fun j => h j * h j) - meanMul h * meanMul h + Ideal.ofBits .f32 0x3727C5AC#32) * g) + b

/-- Entry `k` of the row normalized in two passes, scaled by `g` and shifted by `b`. -/
def twoPass (h : Fin width → EReal) (g b : EReal) (k : Fin width) : EReal :=
  Ideal.div (h k - meanDiv h)
    (Ideal.sqrt (meanDiv (fun j => (h j - meanDiv h) * (h j - meanDiv h)) + Ideal.ofBits .f32 0x3727C5AC#32)) * g + b

/-- The pattern `0x39800000` is the real 1/4096. -/
theorem recip_width : Ideal.ofBits .f32 0x39800000#32 = ((1 / 4096 : ℝ) : EReal) := by
  simp [Ideal.ofBits, Ideal.ieee, -EReal.coe_mul]; norm_num

/-- The pattern `0x45800000` is the real 4096. -/
theorem width_real : Ideal.ofBits .f32 0x45800000#32 = ((4096 : ℝ) : EReal) := by
  simp [Ideal.ofBits, Ideal.ieee, -EReal.coe_mul]; norm_num

/-- The pattern `0x3727C5AC` is a positive real. -/
theorem eps_pos : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-- A sum of reals, taken among the extended reals, is the real sum. -/
theorem sum_real (f : Fin width → ℝ) : (∑ j, (f j : EReal)) = ((∑ j, f j : ℝ) : EReal) :=
  (map_sum (⟨⟨(fun x : ℝ => (x : EReal)), rfl⟩, EReal.coe_add⟩ : ℝ →+ EReal) f Finset.univ).symm

/-- On a row of reals, the mean by multiplication is the real mean. -/
theorem meanMul_real (f : Fin width → ℝ) : meanMul (fun j => (f j : EReal)) = (((∑ j, f j) / 4096 : ℝ) : EReal) := by
  rw [meanMul, sum_real, recip_width, ← EReal.coe_mul]
  congr 1; ring

/-- On a row of reals, the mean by division is the real mean. -/
theorem meanDiv_real (f : Fin width → ℝ) : meanDiv (fun j => (f j : EReal)) = (((∑ j, f j) / 4096 : ℝ) : EReal) := by
  rw [meanDiv, sum_real, width_real, Ideal.div_coe (by norm_num), ← EReal.coe_mul]
  congr 1; ring

/-- The mean of the squared differences from the mean is the mean of the squares less the square of the mean. -/
theorem variance (f : Fin width → ℝ) (μ : ℝ) (hμ : μ = (∑ j, f j) / 4096) :
    (∑ j, (f j - μ) * (f j - μ)) / 4096 = (∑ j, f j * f j) / 4096 - μ * μ := by
  have e : ∀ j, (f j - μ) * (f j - μ) = f j * f j - 2 * μ * f j + μ * μ := fun j => by ring
  simp only [e, Finset.sum_add_distrib, Finset.sum_sub_distrib, ← Finset.mul_sum, Finset.sum_const, Finset.card_univ,
    Fintype.card_fin, nsmul_eq_mul]
  have h : (∑ j, f j) = 4096 * μ := by rw [hμ]; ring
  rw [h]; push_cast; ring

/-- On a row of reals the one-pass and the two-pass normalization agree at every entry. -/
theorem onePass_eq_twoPass (f : Fin width → ℝ) (g b : EReal) (k : Fin width) :
    onePass (fun j => (f j : EReal)) g b k = twoPass (fun j => (f j : EReal)) g b k := by
  obtain ⟨e, he, hbits⟩ := eps_pos
  obtain ⟨μ, hμ⟩ : ∃ μ : ℝ, μ = (∑ j, f j) / 4096 := ⟨_, rfl⟩
  obtain ⟨v, hv⟩ : ∃ v : ℝ, v = (∑ j, (f j - μ) * (f j - μ)) / 4096 := ⟨_, rfl⟩
  have v_nonneg : 0 ≤ v := hv ▸ div_nonneg (Finset.sum_nonneg fun j _ => mul_self_nonneg _) (by norm_num)
  have pos : 0 < v + e := by linarith
  have spos : 0 < Real.sqrt (v + e) := Real.sqrt_pos.2 pos
  have sq1 : meanMul (fun j => (f j : EReal) * (f j : EReal)) - (μ : EReal) * μ = (v : EReal) := by
    simp only [← EReal.coe_mul]
    rw [meanMul_real (fun j => f j * f j), ← EReal.coe_sub, hv, variance f μ hμ]
  have sq2 : meanDiv (fun j => ((f j : EReal) - μ) * ((f j : EReal) - μ)) = (v : EReal) := by
    simp only [← EReal.coe_sub, ← EReal.coe_mul]
    rw [meanDiv_real (fun j => (f j - μ) * (f j - μ)), hv]
  unfold onePass twoPass
  rw [meanMul_real, meanDiv_real, ← hμ, sq1, sq2, hbits, ← EReal.coe_add, Ideal.rsqrt_coe, Ideal.sqrt_coe,
    if_neg (not_lt.2 pos.le), if_neg (not_lt.2 pos.le), if_neg pos.ne', Ideal.div_coe spos.ne', one_div, mul_assoc]

end Cert.RowNorm

end
-- ==== Proof.Tile.lean ====
/-
  What the kernel computes for one tile of 128 rows, and for one block of 512 rows: the one-pass normalization of each row.
-/
module

public import proofs.«01_k».proof.Proof.Gen.KernelIdeal.Value
public import proofs.«01_k».proof.Proof.RowNorm
public import Idealize.ShloMosaic.Lib.Pipeline.ValueKit
public import Idealize.ShloMosaic.Lib.Pointwise

@[expose] public section

set_option maxRecDepth 16384

noncomputable section

namespace Cert.KernelIdeal.Tile

open Cert.KernelIdeal Cert.KernelIdeal.Gen Idealize.ShloMosaic Cert.RowNorm

/-- The last tile's result: entry `(p, q)` is the one-pass normalization of row `p` of the sum. -/
theorem last_tile (g b : FVec Ideal S1x4096 .f32) (x e : FVec Ideal S128x4096 .f32) (p : Fin 128) (q : Fin 4096) :
    k0_pay1 (F := Ideal) g b x e (ix2 p q) = onePass (sumRow x e p) (g (ix2 0 q)) (b (ix2 0 q)) q := by
  unfold onePass meanMul
  pointwise [k0_pay1]

/-- The first tile is the same function of its rows, from the scale and the shift as loaded. -/
theorem first_tile (g b : FVec Ideal S1x4096 .f32) (x e : FVec Ideal S128x4096 .f32) :
    k0_pay4 (F := Ideal) g b x e = k0_pay1 (k0_pay2 g) (k0_pay3 b) x e := rfl

/-- The second tile, whose mean is computed before the rest, is the same function of its rows. -/
theorem second_tile (g b : FVec Ideal S1x4096 .f32) (x e : FVec Ideal S128x4096 .f32) :
    k0_pay7 (F := Ideal) g b (k0_pay5 x e) (k0_pay6 x e) = k0_pay1 g b x e := rfl

/-- The third tile is the same function of its rows. -/
theorem third_tile (g b : FVec Ideal S1x4096 .f32) (x e : FVec Ideal S128x4096 .f32) :
    k0_pay8 (F := Ideal) g b x e = k0_pay1 g b x e := rfl

/-- A tile whose row `z 0` is row `y 0` of a block has there the one-pass normalization of the block's row. -/
theorem tile_of_block (x e : Vec Ideal S512x4096 .f32) (g b : Vec Ideal S1x4096 .f32) (x' e' : FVec Ideal S128x4096 .f32)
    (g' b' : FVec Ideal S1x4096 .f32) (z : S128x4096.Idx) (y : S512x4096.Idx) (h1 : (y 1 : Nat) = z 1)
    (hx : ∀ j : Fin 4096, x' (ix2 (z 0) j) = x (ix2 (y 0) j)) (he : ∀ j : Fin 4096, e' (ix2 (z 0) j) = e (ix2 (y 0) j))
    (hg : ∀ j : Fin 4096, g' (ix2 0 j) = g (ix2 0 j)) (hb : ∀ j : Fin 4096, b' (ix2 0 j) = b (ix2 0 j)) :
    k0_pay1 (F := Ideal) g' b' x' e' z = onePass (sumRow x e (y 0)) (g (ix2 0 (y 1))) (b (ix2 0 (y 1))) (y 1) := by
  have hz : z = ix2 (z 0) (y 1) := by
    funext a
    match a with
    | ⟨0, _⟩ => rfl
    | ⟨1, _⟩ => exact Fin.ext h1.symm
  have hrow : sumRow x' e' (z 0) = sumRow x e (y 0) := funext fun j => congrArg₂ (· + ·) (hx j) (he j)
  refine (congrArg (k0_pay1 (F := Ideal) g' b' x' e') hz).trans ((last_tile g' b' x' e' (z 0) (y 1)).trans ?_)
  rw [hrow]
  exact congrArg₂ (fun u v => onePass _ u v _) (hg (y 1)) (hb (y 1))

/-- One block: entry `(p, q)` of what the body writes is the one-pass normalization of row `p` of the sum. -/
theorem block (x e : Vec Ideal S512x4096 .f32) (g b : Vec Ideal S1x4096 .f32) (y : S512x4096.Idx) :
    out0_4 (F := Ideal) x e g b y = onePass (sumRow x e (y 0)) (g (ix2 0 (y 1))) (b (ix2 0 (y 1))) (y 1) := by
  unfold_out out0_4
  canon_tiles z hz
  case' piece1 => rw [third_tile]
  case' piece2 => rw [second_tile]
  case' piece3 => rw [first_tile]
  all_goals
    refine tile_of_block x e g b _ _ _ _ z y hz1 (fun j => ?_) (fun j => ?_) (fun j => ?_) (fun j => ?_)
  all_goals pointwise [k0_pay2, k0_pay3]
  all_goals blk_ext

end Cert.KernelIdeal.Tile

end
-- ==== Proof.Final.lean ====
/-
  What the kernel's result array holds after the run: at row `r` and column `k`, the one-pass normalization of row `r` of
  the sum of the two input arrays, scaled and shifted by the entries at `k` of the two vectors.
-/
module

public import proofs.«01_k».proof.Proof.Tile
public import Idealize.ShloMosaic.Lib.Claim

@[expose] public section

set_option maxRecDepth 16384

noncomputable section

namespace Cert.KernelIdeal.Final

open Cert.KernelIdeal Cert.KernelIdeal.Gen Cert.KernelIdeal.Tile Idealize.ShloMosaic Idealize.ShloMosaic.TcCoe Cert.RowNorm
open Idealize.ShloMosaic.Pipeline (Dat)

variable (m : (ℓ : Loc nD τ sig) → Buf (Elt Ideal) ℓ)

/-- The array of one-pass normalizations of the rows of `x + e`. -/
def normed (x e : FVec Ideal S8192x4096 .f32) (g b : FVec Ideal S4096 .f32) : FVec Ideal S8192x4096 .f32 :=
  fun i => onePass (sumRow x e (i 0)) (g (ix1 (i 1))) (b (ix1 (i 1))) (i 1)

/-- Where the windows stand at a grid point: the row windows at block row `t`, the two vectors at the origin. -/
theorem stands (t : Fin cfg0.N) : win0_0.index t = ![t.val, 0] ∧ win0_1.index t = ![t.val, 0]
    ∧ win0_2.index t = ![0, 0] ∧ win0_3.index t = ![0, 0] ∧ win0_4.index t = ![t.val, 0] :=
  (by decide +kernel : ∀ t : Fin grid0.N, win0_0.index t = ![t.val, 0] ∧ win0_1.index t = ![t.val, 0]
    ∧ win0_2.index t = ![0, 0] ∧ win0_3.index t = ![0, 0] ∧ win0_4.index t = ![t.val, 0]) t

/-- Row `p` of the first input's block at point `t` is row `512 t + p` of the array. -/
theorem block0 (c : Dev nD) (t : Fin cfg0.N) (p : Fin 512) (r : Fin 8192) (hr : (r : Nat) = 512 * t.val + p) (j : Fin 4096) :
    iblk m c 0 t (ix2 p j) = m ((c : Thread nD τ).loc main_arg0) (ix2 r j) := by
  blk_point [iblk, V, stands t]

/-- Row `p` of the second input's block at point `t` is row `512 t + p` of the array. -/
theorem block1 (c : Dev nD) (t : Fin cfg0.N) (p : Fin 512) (r : Fin 8192) (hr : (r : Nat) = 512 * t.val + p) (j : Fin 4096) :
    iblk m c 1 t (ix2 p j) = m ((c : Thread nD τ).loc main_arg1) (ix2 r j) := by
  blk_point [iblk, V, stands t]

/-- The scale's block is the scale vector. -/
theorem block2 (c : Dev nD) (t : Fin cfg0.N) (j : Fin 4096) :
    iblk m c 2 t (ix2 0 j) = m ((c : Thread nD τ).loc main_arg2) (ix1 j) := by
  blk_point [iblk, V, stands t]

/-- The shift's block is the shift vector. -/
theorem block3 (c : Dev nD) (t : Fin cfg0.N) (j : Fin 4096) :
    iblk m c 3 t (ix2 0 j) = m ((c : Thread nD τ).loc main_arg3) (ix1 j) := by
  blk_point [iblk, V, stands t]

/-- After the run the result array is the array of one-pass normalizations. -/
theorem final (c : Dev nD) : (dats m 0 c).arrAt 4 cfg0.N
    = normed (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4, block]
  have hrow : (((win0_4.blk t).view.emb y) 0 : Nat) = 512 * t.val + (y 0 : Nat) := by
    blk_simp [stands t] <;> try omega
  have hcol : ((win0_4.blk t).view.emb y) 1 = y 1 := Fin.ext (by blk_simp [stands t] <;> try omega)
  have hsum : sumRow (iblk m c 0 t) (iblk m c 1 t) (y 0)
      = sumRow (m ((c : Thread nD τ).loc main_arg0)) (m ((c : Thread nD τ).loc main_arg1)) (((win0_4.blk t).view.emb y) 0) :=
    funext fun j => congrArg₂ (· + ·) (block0 m c t (y 0) _ hrow j) (block1 m c t (y 0) _ hrow j)
  unfold normed
  rw [hsum, hcol]
  exact congrArg₂ (fun u v => onePass _ u v _) (block2 m c t (y 1)) (block3 m c t (y 1))

end Cert.KernelIdeal.Final

end
-- ==== Proof.Take.lean ====
/-
  What the reference takes from the table of position rows. The positions it asks for are 0, 1, …, 8191, in order, so
  row `r` of what it takes is row `r` of the table, and no row is replaced by the filler for a position out of range.
-/
module

public import proofs.«01_k».proof.Proof.Gen.ReferenceIdeal.Run
public import Idealize.ShloMosaic.Lib.Pointwise
public import Idealize.ShloMosaic.Lib.ReduceAll
public import Idealize.ShloMosaic.Lib.Routing.Ops
public import Idealize.ShloMosaic.Lib.WordCmp

@[expose] public section

set_option maxRecDepth 16384

noncomputable section

namespace Cert.ReferenceIdeal.Take

open Cert.ReferenceIdeal Cert.ReferenceIdeal.Facts Cert.ReferenceIdeal.Gen Idealize.ShloMosaic

/-- The positions asked for, one per row: the row numbers, a negative one counted from the end. -/
def positions : IVec S8192x1 32 :=
  broadcastInDim S8192x1 ![0] bcast_S8192_S8192x1_0
    (select (cmpi .slt (iotaInDim S8192 32 0) (broadcastInDim S8192 ![] bcast_S_S8192 (constantI S_ 32 0#32)))
      (addi (iotaInDim S8192 32 0) (broadcastInDim S8192 ![] bcast_S_S8192 (constantI S_ 32 8192#32)))
      (iotaInDim S8192 32 0))

/-- Per row, whether its position lies between 0 and 8191. -/
def inRange : IVec S8192 1 :=
  Host.reduce IntOp.andi
    (andi (cmpi .sge positions (broadcastInDim S8192x1 ![] bcast_S_S8192x1 (constantI S_ 32 0#32)))
      (cmpi .sle positions
        (broadcastInDim S8192x1 ![0, 1] bcast_S1x1_S8192x1_0_1 (broadcastInDim S1x1 ![1] bcast_S1_S1x1_1 (constantI S1 32 8191#32)))))
    (constantI S_ 1 1#1) reducesTo_S8192x1_S8192_d1 h_S_

/-- The rows taken: the table's row at each position, or the filler where the position is out of range. -/
def taken (table : FVec Ideal S8192x4096 .f32) : FVec Ideal S8192x4096 .f32 :=
  select (broadcastInDim S8192x4096 ![0] bcast_S8192_S8192x4096_0 inRange)
    (Host.gather gather_S8192x4096_S8192x1_S8192x4096_1_0_n_n_0_1_14096 table positions)
    (broadcastInDim S8192x4096 ![] bcast_S_S8192x4096 (constant (F := Ideal) S_ .f32 0x7FC00000#32))

/-- The position asked for at row `r` is `r`. -/
theorem positions_at (r : Fin 8192) (z : Fin 1) : positions (ix2 r z) = BitVec.ofNat 32 r.val := by
  pointwise [positions]
  have hr : r.val < 2 ^ (32 - 1) := lt_trans r.isLt (by norm_num)
  rw [WordCmp.cmpi_slt_ofNat hr (by norm_num), decide_eq_false (Nat.not_lt_zero _)]
  rfl

/-- Every row's position is in range. -/
theorem inRange_at (j : S8192.Idx) : inRange j = 1#1 := by
  refine Host.reduce_andi_one _ _ _ _ j rfl fun i => ?_
  idx_vars i
  pointwise
  have hr : i0.val < 2 ^ (32 - 1) := lt_trans i0.isLt (by norm_num)
  rw [positions_at, WordCmp.cmpi_sge_ofNat hr (by norm_num), WordCmp.cmpi_sle_ofNat hr (by norm_num), decide_eq_true (Nat.zero_le _),
    decide_eq_true (Nat.le_of_lt_succ i0.isLt)]
  rfl

/-- What is taken at row `r` is row `r` of the table. -/
theorem taken_at (table : FVec Ideal S8192x4096 .f32) (r : Fin 8192) (k : Fin 4096) : taken table (ix2 r k) = table (ix2 r k) := by
  have hg := Routing.gather_row gather_S8192x4096_S8192x1_S8192x4096_1_0_n_n_0_1_14096 rfl rfl rfl rfl rfl table positions r k r
    (positions_at r 0) (by norm_num)
  refine Eq.trans ?_ hg
  unfold taken
  exact if_pos (inRange_at _)

end Cert.ReferenceIdeal.Take

end
-- ==== Proof.RefValue.lean ====
/-
  What the reference returns: at row `r` and column `k`, the two-pass normalization of row `r` of the sum of the two input
  arrays, scaled and shifted by the entries at `k` of the two vectors.
-/
module

public import proofs.«01_k».proof.Proof.Take
public import proofs.«01_k».proof.Proof.RowNorm

@[expose] public section

set_option maxRecDepth 16384

noncomputable section

namespace Cert.ReferenceIdeal.RefValue

open Cert.ReferenceIdeal Cert.ReferenceIdeal.Facts Cert.ReferenceIdeal.Gen Cert.ReferenceIdeal.Take Idealize.ShloMosaic
open Cert.RowNorm

/-- The mean of each row of an array: its sum divided by the width. -/
def rowMean (h : FVec Ideal S8192x4096 .f32) : FVec Ideal S8192x1 .f32 :=
  Host.divf
    (broadcastInDim S8192x1 ![0] bcast_S8192_S8192x1_0
      (Host.reduceAdd h (constant S_ .f32 0x00000000#32) reducesTo_S8192x4096_S8192_d1 h_S_))
    (broadcastInDim S8192x1 ![] bcast_S_S8192x1 (constant S_ .f32 0x45800000#32))

/-- Each row of an array less its mean. -/
def centred (h : FVec Ideal S8192x4096 .f32) : FVec Ideal S8192x4096 .f32 :=
  subf h (broadcastInDim S8192x4096 ![0, 1] bcast_S8192x1_S8192x4096_0_1 (rowMean h))

/-- The reference's normalization of the rows of an array. -/
def layerNorm (h : FVec Ideal S8192x4096 .f32) (g b : FVec Ideal S4096 .f32) : FVec Ideal S8192x4096 .f32 :=
  addf
    (mulf
      (Host.divf (centred h)
        (broadcastInDim S8192x4096 ![0, 1] bcast_S8192x1_S8192x4096_0_1
          (Host.sqrt (addf (rowMean (mulf (centred h) (centred h)))
            (broadcastInDim S8192x1 ![] bcast_S_S8192x1 (constant S_ .f32 0x3727C5AC#32))))))
      (broadcastInDim S8192x4096 ![0, 1] bcast_S1x4096_S8192x4096_0_1 (broadcastInDim S1x4096 ![1] bcast_S4096_S1x4096_1 g)))
    (broadcastInDim S8192x4096 ![0, 1] bcast_S1x4096_S8192x4096_0_1 (broadcastInDim S1x4096 ![1] bcast_S4096_S1x4096_1 b))

/-- The mean of row `r`. -/
theorem rowMean_at (h : FVec Ideal S8192x4096 .f32) (r : Fin 8192) (z : Fin 1) :
    rowMean h (ix2 r z) = meanDiv fun j => h (ix2 r j) := by
  unfold meanDiv
  pointwise [rowMean]

/-- Entry `(r, k)` less the mean of row `r`. -/
theorem centred_at (h : FVec Ideal S8192x4096 .f32) (r : Fin 8192) (k : Fin 4096) :
    centred h (ix2 r k) = h (ix2 r k) - meanDiv fun j => h (ix2 r j) := by
  pointwise [centred, rowMean_at]

/-- Entry `(r, k)` of the reference's normalization is the two-pass normalization of row `r`. -/
theorem layerNorm_at (h : FVec Ideal S8192x4096 .f32) (g b : FVec Ideal S4096 .f32) (r : Fin 8192) (k : Fin 4096) :
    layerNorm h g b (ix2 r k) = twoPass (fun j => h (ix2 r j)) (g (ix1 k)) (b (ix1 k)) k := by
  unfold twoPass
  pointwise [layerNorm, centred_at, rowMean_at]

variable (m : (ℓ : Loc nD τ sig) → Buf (Elt Ideal) ℓ)

/-- The reference's result is its normalization of the first array plus the rows taken from the second. -/
theorem result (c : Dev nD) : Value.res_out0 m c
    = layerNorm (addf (m ((c.tc : Thread nD τ).loc main_arg0)) (taken (m ((c.tc : Thread nD τ).loc main_arg1))))
        (m ((c.tc : Thread nD τ).loc main_arg2)) (m ((c.tc : Thread nD τ).loc main_arg3)) := by
  unfold Value.res_out0 Value.res_main_v26
  rfl

/-- Entry `(r, k)` of the reference's result is the two-pass normalization of row `r` of the sum of the two arrays. -/
theorem result_at (c : Dev nD) (r : Fin 8192) (k : Fin 4096) : Value.res_out0 m c (ix2 r k)
    = twoPass (sumRow (m ((c.tc : Thread nD τ).loc main_arg0)) (m ((c.tc : Thread nD τ).loc main_arg1)) r)
        (m ((c.tc : Thread nD τ).loc main_arg2) (ix1 k)) (m ((c.tc : Thread nD τ).loc main_arg3) (ix1 k)) k := by
  rw [result, layerNorm_at]
  refine congrArg (fun row => twoPass row _ _ _) (funext fun j => ?_)
  exact congrArg₂ (· + ·) rfl (taken_at _ r j)

end Cert.ReferenceIdeal.RefValue

end
-- ==== Proof.Finite.lean ====
/-
  What the precondition says of an input: every entry of the first two arrays is a real number.
-/
module

public import proofs.«01_k».proof.Proof.Gen.Pre_finite
public import Idealize.ShloMosaic.Lib.Pointwise
public import Idealize.ShloMosaic.Lib.WordCmp

@[expose] public section

noncomputable section

namespace Cert.Pre_finite.Read

open Cert.Pre_finite Cert.Pre_finite.Gen Idealize.ShloMosaic

/-- The pattern `0x7F800000` is the greatest extended real. -/
theorem inf_bits : Ideal.ofBits .f32 0x7F800000#32 = ⊤ := by
  simp [Ideal.ofBits, Ideal.ieee]

/-- An extended real whose magnitude is below the greatest one is a real number. -/
theorem real_of_lt (a : EReal) (h : max a (-a) < ⊤) : ∃ v : ℝ, a = (v : EReal) := by
  induction a using EReal.rec with
  | bot => simp at h
  | top => simp at h
  | coe v => exact ⟨v, rfl⟩

/-- Two bits whose conjunction is set are both set. -/
theorem both_set (p q : Prop) [Decidable p] [Decidable q]
    (h : IntOp.andi (BitVec.ofBool (decide p)) (BitVec.ofBool (decide q)) = 1#1) : p ∧ q := by
  by_cases hp : p <;> by_cases hq : q <;> simp_all [IntOp.andi]

/-- Where the precondition holds, both arrays' entries are real numbers. -/
theorem reals (x e : FVec Ideal S8192x4096 .f32) (g b : FVec Ideal S4096 .f32) (h : fn (F := Ideal) x e g b = fun _ => 1#1)
    (i : S8192x4096.Idx) : (∃ v : ℝ, x i = (v : EReal)) ∧ ∃ v : ℝ, e i = (v : EReal) := by
  have hi := congrFun h i
  revert hi
  idx_vars i
  pointwise [fn]
  rw [inf_bits]
  exact fun hi => (both_set _ _ hi).imp (real_of_lt _) (real_of_lt _)

end Cert.Pre_finite.Read

end
-- ==== Proof.Equation.lean ====
/-
  The kernel's array and the reference's result are the same, on finite inputs; and the two runs that end in it.
-/
module

public import proofs.«01_k».proof.Defs
public import proofs.«01_k».proof.Proof.Final
public import proofs.«01_k».proof.Proof.RefValue
public import proofs.«01_k».proof.Proof.Finite

@[expose] public section

noncomputable section

namespace Cert.Equation

open Idealize.ShloMosaic Idealize.ShloMosaic.TcCoe Cert.RowNorm

/-- A row of the sum of two arrays of reals is a row of reals. -/
theorem sumRow_real {n : Nat} (x e : (⟨2, ![n, width]⟩ : Shape).Idx → EReal)
    (h : ∀ i, (∃ v : ℝ, x i = (v : EReal)) ∧ ∃ v : ℝ, e i = (v : EReal)) (r : Fin n) :
    ∃ f : Fin width → ℝ, sumRow x e r = fun j => (f j : EReal) := by
  choose fx hx using fun i => (h i).1
  choose fe he using fun i => (h i).2
  refine ⟨fun j => fx (ix2 r j) + fe (ix2 r j), funext fun j => ?_⟩
  rw [EReal.coe_add, ← hx, ← he]

/-- From memories that agree on the arguments, finite in the first two, the reference's result is the kernel's array. -/
theorem result_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ)
    (c : Dev KernelIdeal.nD)
    (hpre : Pre_finite.fn (F := Ideal) (m ((c.tc : Thread KernelIdeal.nD KernelIdeal.τ).loc KernelIdeal.main_arg0))
      (m ((c.tc : Thread KernelIdeal.nD KernelIdeal.τ).loc KernelIdeal.main_arg1))
      (m ((c.tc : Thread KernelIdeal.nD KernelIdeal.τ).loc KernelIdeal.main_arg2))
      (m ((c.tc : Thread KernelIdeal.nD KernelIdeal.τ).loc KernelIdeal.main_arg3)) = fun _ => 1#1)
    (h0 : m' ((c.tc : Thread ReferenceIdeal.nD ReferenceIdeal.τ).loc ReferenceIdeal.main_arg0)
      = m ((c.tc : Thread KernelIdeal.nD KernelIdeal.τ).loc KernelIdeal.main_arg0))
    (h1 : m' ((c.tc : Thread ReferenceIdeal.nD ReferenceIdeal.τ).loc ReferenceIdeal.main_arg1)
      = m ((c.tc : Thread KernelIdeal.nD KernelIdeal.τ).loc KernelIdeal.main_arg1))
    (h2 : m' ((c.tc : Thread ReferenceIdeal.nD ReferenceIdeal.τ).loc ReferenceIdeal.main_arg2)
      = m ((c.tc : Thread KernelIdeal.nD KernelIdeal.τ).loc KernelIdeal.main_arg2))
    (h3 : m' ((c.tc : Thread ReferenceIdeal.nD ReferenceIdeal.τ).loc ReferenceIdeal.main_arg3)
      = m ((c.tc : Thread KernelIdeal.nD KernelIdeal.τ).loc KernelIdeal.main_arg3)) :
    ReferenceIdeal.Value.res_out0 m' c = (KernelIdeal.Gen.dats m 0 c).arrAt 4 KernelIdeal.cfg0.N := by
  rw [KernelIdeal.Final.final]
  funext i
  idx_vars i
  rw [ReferenceIdeal.RefValue.result_at, h0, h1, h2, h3]
  obtain ⟨f, hf⟩ := sumRow_real _ _ (Pre_finite.Read.reals _ _ _ _ hpre) i0
  show _ = onePass (sumRow _ _ i0) _ _ i1
  rw [hf]
  exact (onePass_eq_twoPass f _ _ i1).symm

/-- The kernel and the reference both run and, on finite inputs, end with the same result. -/
theorem algebraic : Cert.algebraic_KernelIdeal_ReferenceIdeal_pre_finite := by
  intro m g m' g' hpre hagree
  refine ⟨fun c => (KernelIdeal.Gen.dats m 0 c).arrAt 4 KernelIdeal.cfg0.N, ?_, ?_⟩
  · exact (θ_run KernelIdeal.defs _ _).mono (fun _ h => h) (KernelIdeal.Value.run_blocks m g)
  · exact (θ_run ReferenceIdeal.defs _ _).mono
      (fun _ h c => ⟨(h c).1.trans (result_eq m m' c (hpre c) (hagree c).1 (hagree c).2.1 (hagree c).2.2.1 (hagree c).2.2.2), (h c).2⟩)
      (ReferenceIdeal.Value.run (F := Ideal) m' g')

/-- The reference runs to the end, leaves its arguments as they were and every counter at zero. -/
theorem reference_frame : Cert.quiescent_ReferenceIdeal := fun m g _ =>
  (θ_run ReferenceIdeal.defs _ _).mono
    (fun r h => ⟨fun c => (h c).2, sem_eq_zero_of_no_sems (by decide) r.2⟩) (ReferenceIdeal.Value.run (F := Ideal) m g)

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Everything claimed: the frames of the kernel (as printed and read over the extended reals) and of the reference, and
    that on finite inputs the two end with the same result. -/
theorem claim : Cert.Claim := ⟨Cert.Kernel.Gen.facts, Cert.KernelIdeal.Gen.facts, Cert.ReferenceIdeal.Gen.facts, Cert.Pre_finite.Gen.facts,
  fun m g _ => Cert.Kernel.Gen.frame m g,
  fun m g _ => Cert.KernelIdeal.Gen.frame m g,
  fun m g _ => Cert.KernelIdeal.Gen.frame m g,
  Cert.Equation.reference_frame,
  fun m g _ => Cert.Equation.reference_frame m g trivial,
  trivial,
  Cert.Equation.algebraic⟩

end Cert.Proof

end
